-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x768 : Shape := ⟨3, ![8, 2048, 768]⟩
abbrev S8x2048 : Shape := ⟨2, ![8, 2048]⟩
abbrev S768x96 : Shape := ⟨2, ![768, 96]⟩
abbrev S96 : Shape := ⟨1, ![96]⟩
abbrev S8x1x2048 : Shape := ⟨3, ![8, 1, 2048]⟩
abbrev S1x96 : Shape := ⟨2, ![1, 96]⟩
abbrev S8x64x768 : Shape := ⟨3, ![8, 64, 768]⟩
abbrev S1x1x2048 : Shape := ⟨3, ![1, 1, 2048]⟩
abbrev S1x2048x768 : Shape := ⟨3, ![1, 2048, 768]⟩
abbrev S1x64x768 : Shape := ⟨3, ![1, 64, 768]⟩
abbrev S2048x768 : Shape := ⟨2, ![2048, 768]⟩
abbrev S1x2048 : Shape := ⟨2, ![1, 2048]⟩
abbrev S2048x1 : Shape := ⟨2, ![2048, 1]⟩
abbrev S2048x96 : Shape := ⟨2, ![2048, 96]⟩
abbrev S64x2048 : Shape := ⟨2, ![64, 2048]⟩
abbrev S2048x64 : Shape := ⟨2, ![2048, 64]⟩
abbrev S64x96 : Shape := ⟨2, ![64, 96]⟩
abbrev S2048 : Shape := ⟨1, ![2048]⟩
abbrev S64 : Shape := ⟨1, ![64]⟩
abbrev S1x64 : Shape := ⟨2, ![1, 64]⟩
abbrev S64x768 : Shape := ⟨2, ![64, 768]⟩
abbrev S8x63x768 : Shape := ⟨3, ![8, 63, 768]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x768, .f32⟩
  | .hbm, ⟨1, _⟩ => ⟨S8x2048, .i32⟩
  | .hbm, ⟨2, _⟩ => ⟨S768x96, .f32⟩
  | .hbm, ⟨3, _⟩ => ⟨S96, .f32⟩
  | .hbm, ⟨4, _⟩ => ⟨S768x96, .f32⟩
  | .hbm, ⟨5, _⟩ => ⟨S96, .f32⟩
  | .hbm, ⟨6, _⟩ => ⟨S8x1x2048, .i32⟩
  | .hbm, ⟨7, _⟩ => ⟨S1x96, .f32⟩
  | .hbm, ⟨8, _⟩ => ⟨S1x96, .f32⟩
  | .hbm, ⟨9, _⟩ => ⟨S8x64x768, .f32⟩
  | .hbm, ⟨10, _⟩ => ⟨S8x63x768, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x768, .f32⟩
  | .local _ .vmem, ⟨3, _⟩ => ⟨S1x2048x768, .f32⟩
  | .local _ .vmem, ⟨4, _⟩ => ⟨S768x96, .f32⟩
  | .local _ .vmem, ⟨5, _⟩ => ⟨S1x96, .f32⟩
  | .local _ .vmem, ⟨6, _⟩ => ⟨S768x96, .f32⟩
  | .local _ .vmem, ⟨7, _⟩ => ⟨S1x96, .f32⟩
  | .local _ .vmem, ⟨8, _⟩ => ⟨S1x64x768, .f32⟩
  | .local _ .vmem, ⟨9, _⟩ => ⟨S1x64x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x768 : Shape := ⟨3, ![8, 2048, 768]⟩
abbrev S8x2048 : Shape := ⟨2, ![8, 2048]⟩
abbrev S768x96 : Shape := ⟨2, ![768, 96]⟩
abbrev S96 : Shape := ⟨1, ![96]⟩
abbrev S8x2048x96 : Shape := ⟨3, ![8, 2048, 96]⟩
abbrev S1x1x96 : Shape := ⟨3, ![1, 1, 96]⟩
abbrev S8 : Shape := ⟨1, ![8]⟩
abbrev S8x1 : Shape := ⟨2, ![8, 1]⟩
abbrev S_ : Shape := ⟨0, ![]⟩
abbrev S8x64x96 : Shape := ⟨3, ![8, 64, 96]⟩
abbrev S8x2048x1 : Shape := ⟨3, ![8, 2048, 1]⟩
abbrev S8x2048x2 : Shape := ⟨3, ![8, 2048, 2]⟩
abbrev S64 : Shape := ⟨1, ![64]⟩
abbrev S8x1x2048 : Shape := ⟨3, ![8, 1, 2048]⟩
abbrev S64x1 : Shape := ⟨2, ![64, 1]⟩
abbrev S1x64x1 : Shape := ⟨3, ![1, 64, 1]⟩
abbrev S8x64x2048 : Shape := ⟨3, ![8, 64, 2048]⟩
abbrev S8x64 : Shape := ⟨2, ![8, 64]⟩
abbrev S8x64x768 : Shape := ⟨3, ![8, 64, 768]⟩
abbrev S8x63x768 : Shape := ⟨3, ![8, 63, 768]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048, .i32⟩
  | .hbm, ⟨2, _⟩ => ⟨S768x96, .f32⟩
  | .hbm, ⟨3, _⟩ => ⟨S96, .f32⟩
  | .hbm, ⟨4, _⟩ => ⟨S768x96, .f32⟩
  | .hbm, ⟨5, _⟩ => ⟨S96, .f32⟩
  | .hbm, ⟨6, _⟩ => ⟨S8x2048x96, .f32⟩
  | .hbm, ⟨7, _⟩ => ⟨S1x1x96, .f32⟩
  | .hbm, ⟨8, _⟩ => ⟨S8x2048x96, .f32⟩
  | .hbm, ⟨9, _⟩ => ⟨S8x2048x96, .f32⟩
  | .hbm, ⟨10, _⟩ => ⟨S8x2048x96, .f32⟩
  | .hbm, ⟨11, _⟩ => ⟨S1x1x96, .f32⟩
  | .hbm, ⟨12, _⟩ => ⟨S8x2048x96, .f32⟩
  | .hbm, ⟨13, _⟩ => ⟨S8x2048x96, .f32⟩
  | .hbm, ⟨14, _⟩ => ⟨S8, .i32⟩
  | .hbm, ⟨15, _⟩ => ⟨S8x1, .i32⟩
  | .hbm, ⟨16, _⟩ => ⟨S_, .f32⟩
  | .hbm, ⟨17, _⟩ => ⟨S8x64x96, .f32⟩
  | .hbm, ⟨18, _⟩ => ⟨S8x2048, .i32⟩
  | .hbm, ⟨19, _⟩ => ⟨S8x2048x1, .i32⟩
  | .hbm, ⟨20, _⟩ => ⟨S8x2048x1, .i32⟩
  | .hbm, ⟨21, _⟩ => ⟨S8x2048x2, .i32⟩
  | .hbm, ⟨22, _⟩ => ⟨S8x64x96, .f32⟩
  | .hbm, ⟨23, _⟩ => ⟨S_, .i32⟩
  | .hbm, ⟨24, _⟩ => ⟨S8x2048, .i32⟩
  | .hbm, ⟨25, _⟩ => ⟨S8x2048, .i1⟩
  | .hbm, ⟨26, _⟩ => ⟨S_, .i32⟩
  | .hbm, ⟨27, _⟩ => ⟨S8x2048, .i32⟩
  | .hbm, ⟨28, _⟩ => ⟨S8x2048, .i32⟩
  | .hbm, ⟨29, _⟩ => ⟨S8x2048, .i32⟩
  | .hbm, ⟨30, _⟩ => ⟨S8x2048x1, .i32⟩
  | .hbm, ⟨31, _⟩ => ⟨S8x2048x96, .f32⟩
  | .hbm, ⟨32, _⟩ => ⟨S8x2048x96, .f32⟩
  | .hbm, ⟨33, _⟩ => ⟨S_, .f32⟩
  | .hbm, ⟨34, _⟩ => ⟨S8x2048, .f32⟩
  | .hbm, ⟨35, _⟩ => ⟨S64, .i32⟩
  | .hbm, ⟨36, _⟩ => ⟨S8x1x2048, .i32⟩
  | .hbm, ⟨37, _⟩ => ⟨S64x1, .i32⟩
  | .hbm, ⟨38, _⟩ => ⟨S1x64x1, .i32⟩
  | .hbm, ⟨39, _⟩ => ⟨S8x64x2048, .i32⟩
  | .hbm, ⟨40, _⟩ => ⟨S8x64x2048, .i32⟩
  | .hbm, ⟨41, _⟩ => ⟨S8x64x2048, .i1⟩
  | .hbm, ⟨42, _⟩ => ⟨S8x1x2048, .f32⟩
  | .hbm, ⟨43, _⟩ => ⟨S_, .f32⟩
  | .hbm, ⟨44, _⟩ => ⟨S_, .f32⟩
  | .hbm, ⟨45, _⟩ => ⟨S8x64x2048, .f32⟩
  | .hbm, ⟨46, _⟩ => ⟨S8x64x2048, .f32⟩
  | .hbm, ⟨47, _⟩ => ⟨S8x64x2048, .f32⟩
  | .hbm, ⟨48, _⟩ => ⟨S_, .f32⟩
  | .hbm, ⟨49, _⟩ => ⟨S8x64, .f32⟩
  | .hbm, ⟨50, _⟩ => ⟨S_, .i32⟩
  | .hbm, ⟨51, _⟩ => ⟨S8x2048, .i32⟩
  | .hbm, ⟨52, _⟩ => ⟨S8x2048, .i1⟩
  | .hbm, ⟨53, _⟩ => ⟨S_, .i32⟩
  | .hbm, ⟨54, _⟩ => ⟨S8x2048, .i32⟩
  | .hbm, ⟨55, _⟩ => ⟨S8x2048, .i32⟩
  | .hbm, ⟨56, _⟩ => ⟨S8x2048, .i32⟩
  | .hbm, ⟨57, _⟩ => ⟨S8x2048x1, .i32⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S8, .i32⟩
  | .hbm, ⟨62, _⟩ => ⟨S8x1, .i32⟩
  | .hbm, ⟨63, _⟩ => ⟨S_, .f32⟩
  | .hbm, ⟨64, _⟩ => ⟨S8x64, .f32⟩
  | .hbm, ⟨65, _⟩ => ⟨S8x2048, .i32⟩
  | .hbm, ⟨66, _⟩ => ⟨S8x2048x1, .i32⟩
  | .hbm, ⟨67, _⟩ => ⟨S8x2048x1, .i32⟩
  | .hbm, ⟨68, _⟩ => ⟨S8x2048x2, .i32⟩
  | .hbm, ⟨69, _⟩ => ⟨S8x64, .f32⟩
  | .hbm, ⟨70, _⟩ => ⟨S_, .i32⟩
  | .hbm, ⟨71, _⟩ => ⟨S8x2048, .i32⟩
  | .hbm, ⟨72, _⟩ => ⟨S8x2048, .i1⟩
  | .hbm, ⟨73, _⟩ => ⟨S_, .i32⟩
  | .hbm, ⟨74, _⟩ => ⟨S8x2048, .i32⟩
  | .hbm, ⟨75, _⟩ => ⟨S8x2048, .i32⟩
  | .hbm, ⟨76, _⟩ => ⟨S8x2048, .i32⟩
  | .hbm, ⟨77, _⟩ => ⟨S8x2048x1, .i32⟩
  | .hbm, ⟨78, _⟩ => ⟨S8x2048, .f32⟩
  | .hbm, ⟨79, _⟩ => ⟨S8x2048, .f32⟩
  | .hbm, ⟨80, _⟩ => ⟨S8x2048x1, .f32⟩
  | .hbm, ⟨81, _⟩ => ⟨S8x2048x768, .f32⟩
  | .hbm, ⟨82, _⟩ => ⟨S8x2048x768, .f32⟩
  | .hbm, ⟨83, _⟩ => ⟨S8, .i32⟩
  | .hbm, ⟨84, _⟩ => ⟨S8x1, .i32⟩
  | .hbm, ⟨85, _⟩ => ⟨S_, .f32⟩
  | .hbm, ⟨86, _⟩ => ⟨S8x64x768, .f32⟩
  | .hbm, ⟨87, _⟩ => ⟨S8x2048, .i32⟩
  | .hbm, ⟨88, _⟩ => ⟨S8x2048x1, .i32⟩
  | .hbm, ⟨89, _⟩ => ⟨S8x2048x1, .i32⟩
  | .hbm, ⟨90, _⟩ => ⟨S8x2048x2, .i32⟩
  | .hbm, ⟨91, _⟩ => ⟨S8x64x768, .f32⟩
  | .hbm, ⟨92, _⟩ => ⟨S8x63x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Proof.Model.lean ====
/- The function both programs compute, for one text, as plain sums and a maximum over the extended reals: attention of the
   sentences of a text over its own tokens. -/
module

public import Idealize.ShloMosaic.PureOps.Ideal

@[expose] public section

noncomputable section

namespace Cert.Sent

open Idealize.ShloMosaic

/-- Token `t` belongs to sentence `n`: its word is `n`'s. -/
abbrev In (seg : Fin 2048 → BitVec 32) (n : Fin 64) (t : Fin 2048) : Prop := seg t = BitVec.ofNat 32 n.val

/-- A projection of the tokens: `x W + b` at token `t`, feature `j`. -/
def proj (x : Fin 2048 → Fin 768 → EReal) (w : Fin 768 → Fin 96 → EReal) (b : Fin 96 → EReal) (t : Fin 2048) (j : Fin 96) :
    EReal :=
  (∑ i : Fin 768, x t i * w i j) + b j

/-- The sum of `f` over the tokens of sentence `n`. -/
def sumOver (seg : Fin 2048 → BitVec 32) (f : Fin 2048 → EReal) (n : Fin 64) : EReal :=
  ∑ t : Fin 2048, if In seg n t then f t else 0

/-- The greatest `f` over the tokens of sentence `n`, or bottom where it has none. -/
def maxOver (seg : Fin 2048 → BitVec 32) (f : Fin 2048 → EReal) (n : Fin 64) : EReal :=
  Finset.univ.fold max ⊥ fun t : Fin 2048 => if In seg n t then f t else ⊥

/-- The entry of `g` at the sentence of token `t`, or zero where the token's word names none of the 64. -/
def atToken (seg : Fin 2048 → BitVec 32) (g : Fin 64 → EReal) (t : Fin 2048) : EReal :=
  ∑ n : Fin 64, if In seg n t then g n else 0

/-- The score of token `t`: its query against the sum of the keys of its sentence. -/
def score (seg : Fin 2048 → BitVec 32) (q k : Fin 2048 → Fin 96 → EReal) (t : Fin 2048) : EReal :=
  ∑ j : Fin 96, q t j * atToken seg (sumOver seg fun t' => k t' j) t

/-- The exponential of a score less its sentence's greatest. -/
def expo (seg : Fin 2048 → BitVec 32) (s : Fin 2048 → EReal) (t : Fin 2048) : EReal :=
  Ideal.exp (s t - atToken seg (maxOver seg s) t)

/-- The weight of token `t` within its sentence, from the exponentials. -/
def weight (seg : Fin 2048 → BitVec 32) (e : Fin 2048 → EReal) (t : Fin 2048) : EReal :=
  Ideal.div (e t) (atToken seg (sumOver seg e) t)

/-- The result for sentence `n`, feature `d`: the weighted sum of its tokens. -/
def out (x : Fin 2048 → Fin 768 → EReal) (seg : Fin 2048 → BitVec 32) (wq : Fin 768 → Fin 96 → EReal) (bq : Fin 96 → EReal)
    (wk : Fin 768 → Fin 96 → EReal) (bk : Fin 96 → EReal) (n : Fin 64) (d : Fin 768) : EReal :=
  sumOver seg (fun t => weight seg (expo seg (score seg (proj x wq bq) (proj x wk bk))) t * x t d) n

/-- Words of different sentences differ. -/
theorem word_inj {n n' : Fin 64} (h : BitVec.ofNat 32 n.val = BitVec.ofNat 32 n'.val) : n = n' := by
  have := congrArg BitVec.toNat h
  simp only [BitVec.toNat_ofNat] at this
  omega

/-- At a token of sentence `n` the entry read is `n`'s. -/
theorem atToken_of_in {seg : Fin 2048 → BitVec 32} (g : Fin 64 → EReal) {n : Fin 64} {t : Fin 2048} (h : In seg n t) :
    atToken seg g t = g n := by
  unfold atToken
  rw [Finset.sum_eq_single n (fun n' _ hn => if_neg fun h' => hn (word_inj (h'.symm.trans h))) (fun hn => absurd (Finset.mem_univ n) hn)]
  exact if_pos h

/-- A sentence's sum reads the summand at its own tokens only. -/
theorem sumOver_congr {seg : Fin 2048 → BitVec 32} {f g : Fin 2048 → EReal} {n : Fin 64} (h : ∀ t, In seg n t → f t = g t) :
    sumOver seg f n = sumOver seg g n := by
  unfold sumOver
  refine Finset.sum_congr rfl fun t _ => ?_
  split
  · exact h t ‹_›
  · rfl

/-- A sentence's maximum reads the values at its own tokens only. -/
theorem maxOver_congr {seg : Fin 2048 → BitVec 32} {f g : Fin 2048 → EReal} {n : Fin 64} (h : ∀ t, In seg n t → f t = g t) :
    maxOver seg f n = maxOver seg g n := by
  unfold maxOver
  refine congrArg (fun v => Finset.fold max ⊥ v Finset.univ) (funext fun t => ?_)
  split
  · exact h t ‹_›
  · rfl

end Cert.Sent

end
-- ==== Proof.Words.lean ====
/- Comparisons of words, read as conditions; the bits of minus infinity. -/
module

public import Idealize.ShloMosaic.Lib.Pointwise

@[expose] public section

noncomputable section

namespace Cert.Sent

open Idealize.ShloMosaic

/-- The equality bit of two words. -/
theorem eqBit (a b : BitVec 32) : IntOp.cmpi .eq a b = if b = a then 1#1 else 0#1 := by
  unfold IntOp.cmpi
  by_cases h : b = a
  · subst h; simp
  · rw [if_neg h, beq_eq_false_iff_ne.2 (Ne.symm h)]; rfl

/-- The equality bit of two words, widened and converted, is one or zero. -/
theorem eqBit_float (a b : BitVec 32) :
    (FloatOps.sitofp .f32 (BitVec.setWidth 32 (IntOp.cmpi .eq a b)) : Ideal .f32) = if b = a then (1 : EReal) else 0 := by
  rw [eqBit]
  by_cases h : b = a
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp

/-- A selection by the equality bit of two words. -/
theorem select_eqBit {α : Type} (a b : BitVec 32) (x y : α) :
    Scalar.select (IntOp.cmpi .eq a b) x y = if b = a then x else y := by
  rw [eqBit]
  by_cases h : b = a
  · rw [if_pos h, if_pos h]; rfl
  · rw [if_neg h, if_neg h]; rfl

/-- The bits of minus infinity denote bottom. -/
theorem ofBits_negInf : Ideal.ofBits .f32 0xFF800000#32 = ⊥ := by
  simp [Ideal.ofBits, Ideal.ieee]

/-- A product by one or zero is the other factor or zero. -/
theorem indicator_mul (p : Prop) [Decidable p] (a : EReal) : (if p then (1 : EReal) else 0) * a = if p then a else 0 := by
  split
  · exact one_mul a
  · exact zero_mul a

end Cert.Sent

end
-- ==== Proof.KernelBlock.lean ====
/- The block the kernel writes for one text, read at an index. -/
module

public import proofs.«01_k».proof.Proof.Model
public import proofs.«01_k».proof.Proof.Words
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Sent

variable (x0 : Vec Ideal S1x1x2048 .i32) (x1 : Vec Ideal S1x2048x768 .f32) (x2 : Vec Ideal S768x96 .f32)
  (x3 : Vec Ideal S1x96 .f32) (x4 : Vec Ideal S768x96 .f32) (x5 : Vec Ideal S1x96 .f32)

/-- The text's words. -/
abbrev seg : Fin 2048 → BitVec 32 := fun t => x0 (ix3 0 0 t)

/-- The queries, or the keys, of a block: the projection of its tokens by a matrix and a row. -/
abbrev blkProj (w : Vec Ideal S768x96 .f32) (b : Vec Ideal S1x96 .f32) : Fin 2048 → Fin 96 → EReal :=
  proj (fun t i => x1 (ix3 0 t i)) (fun i j => w (ix2 i j)) (fun j => b (ix2 0 j))

/-- The 0/1 table of sentences by tokens. -/
theorem hot_apply (n : Fin 64) (t : Fin 2048) :
    (k0_pay5 x0 : FVec Ideal S64x2048 .f32) (ix2 n t) = if In (seg x0) n t then (1 : EReal) else 0 := by
  pointwise [k0_pay5, k0_pay3]
  exact eqBit_float _ _

/-- The mask of tokens by sentences. -/
theorem mask_apply (n : Fin 64) (t : Fin 2048) :
    k0_pay6 (F := Ideal) x0 (ix2 t n) = IntOp.cmpi .eq (BitVec.ofNat 32 n.val) (seg x0 t) := by
  pointwise [k0_pay6, k0_pay4, k0_pay3]

/-- The column of scores. -/
theorem score_apply (t : Fin 2048) :
    k0_pay7 x1 x0 x2 x3 x4 x5 (ix2 t 0) = score (seg x0) (blkProj x1 x2 x3) (blkProj x1 x4 x5) t := by
  pointwise [k0_pay7, k0_pay5, k0_pay4, k0_pay3, k0_pay2]
  simp only [eqBit_float, indicator_mul]
  rfl

/-- The scores masked by sentence. -/
theorem masked_apply (n : Fin 64) (t : Fin 2048) :
    k0_pay8 x1 x0 x2 x3 x4 x5 (ix2 t n)
      = if In (seg x0) n t then score (seg x0) (blkProj x1 x2 x3) (blkProj x1 x4 x5) t else (⊥ : EReal) := by
  pointwise [k0_pay8]
  rw [mask_apply, score_apply, select_eqBit, ofBits_negInf]

/-- The block written for a text is the model's result of its tokens. -/
theorem block_apply (n : Fin 64) (d : Fin 768) :
    k0_pay1 (k0_pay2 x1) (k0_pay5 x0) (k0_pay6 (F := Ideal) x0) (k0_pay7 x1 x0 x2 x3 x4 x5) (k0_pay8 x1 x0 x2 x3 x4 x5) (ix3 0 n d)
      = out (fun t i => x1 (ix3 0 t i)) (seg x0) (fun i j => x2 (ix2 i j)) (fun j => x3 (ix2 0 j)) (fun i j => x4 (ix2 i j))
          (fun j => x5 (ix2 0 j)) n d := by
  pointwise [k0_pay1, k0_pay2]
  simp only [mask_apply, score_apply, masked_apply, hot_apply, select_eqBit, ofBits_negInf, indicator_mul]
  unfold out sumOver
  refine Finset.sum_congr rfl fun t _ => ?_
  by_cases h : In (seg x0) n t
  · rw [if_pos h, if_pos h]
    rfl
  · rw [if_neg h, if_neg h]
    exact zero_mul _

end Cert.KernelIdeal.Block

end
-- ==== Proof.KernelValue.lean ====
/- The kernel's run at the ideal instance: the array it returns, index by index. -/
module

public import proofs.«01_k».proof.Proof.KernelBlock
public import proofs.«01_k».proof.Proof.Gen.KernelIdeal.Frame
public import Idealize.ShloMosaic.Lib.Pipeline.Value
public import Idealize.ShloMosaic.Lib.Claim

@[expose] public section

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Sent Cert.KernelIdeal.Block

variable (m : (ℓ : Loc nD τ sig) → Buf (Elt Ideal) ℓ) (ρ : Dev nD → PrngReg)

/-- The text a grid point handles. -/
def text (t : Fin cfg0.N) : Fin 8 := ⟨t.val, t.isLt.trans_eq N_0⟩

/-- The words of the tokens of text `b`. -/
def words (c : Dev nD) (b : Fin 8) : Fin 2048 → BitVec 32 := fun t => m ((c : Thread nD τ).loc main_arg1) (ix2 b t)

/-- The model's result on the launch's arguments, for text `b`, sentence `n`, feature `d`. -/
def whole (c : Dev nD) (b : Fin 8) (n : Fin 64) (d : Fin 768) : EReal :=
  out (fun t i => m ((c : Thread nD τ).loc main_arg0) (ix3 b t i)) (words m c b)
    (fun i j => m ((c : Thread nD τ).loc main_arg2) (ix2 i j)) (fun j => m ((c : Thread nD τ).loc main_arg3) (ix1 j))
    (fun i j => m ((c : Thread nD τ).loc main_arg4) (ix2 i j)) (fun j => m ((c : Thread nD τ).loc main_arg5) (ix1 j)) n d

/-- The block indices of the windows that move with the grid. -/
theorem index_facts (t : Fin grid0.N) :
    (win0_0.index t 0 = t.val ∧ win0_0.index t 1 = 0 ∧ win0_0.index t 2 = 0)
      ∧ (win0_1.index t 0 = t.val ∧ win0_1.index t 1 = 0 ∧ win0_1.index t 2 = 0)
      ∧ (win0_6.index t 0 = t.val ∧ win0_6.index t 1 = 0 ∧ win0_6.index t 2 = 0) := by
  rcases fin_N0 t with rfl | rfl | rfl | rfl | rfl | rfl | rfl | rfl <;> decide +kernel

/-- and of those that stay: each block is the whole array. -/
theorem index_zero (t : Fin grid0.N) :
    (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0) := by
  rcases fin_N0 t with rfl | rfl | rfl | rfl | rfl | rfl | rfl | rfl <;> decide +kernel

/-- What the region finds in the reshaped words and rows. -/
theorem V_words (c : Dev nD) :
    V m c main_v0 = shapeCast S8x1x2048 (m ((c : Thread nD τ).loc main_arg1)) shapeCasts_S8x2048_S8x1x2048 := by
  show StableHlo.after hostOps0 (fun b => m (c, b)) (Proc.devRef .tc main_v0) = _
  after_results
  rfl
theorem V_rowQ (c : Dev nD) :
    V m c main_v1 = shapeCast S1x96 (m ((c : Thread nD τ).loc main_arg3)) shapeCasts_S96_S1x96 := by
  show StableHlo.after hostOps0 (fun b => m (c, b)) (Proc.devRef .tc main_v1) = _
  after_results
  rfl
theorem V_rowK (c : Dev nD) :
    V m c main_v2 = shapeCast S1x96 (m ((c : Thread nD τ).loc main_arg5)) shapeCasts_S96_S1x96 := by
  show StableHlo.after hostOps0 (fun b => m (c, b)) (Proc.devRef .tc main_v2) = _
  after_results
  rfl

/-- The block of tokens at a point. -/
theorem iblk1_apply (c : Dev nD) (t : Fin cfg0.N) (i : Fin 2048) (d : Fin 768) :
    iblk m c 1 t (ix3 0 i d) = m ((c : Thread nD τ).loc main_arg0) (ix3 (text t) i d) := by
  show V m c main_arg0 (((cfg0.win 1).blk t).view.emb (ix3 0 i d)) = _
  rw [V_main_arg0]
  refine congrArg _ (funext fun a => Fin.ext ?_)
  have h := (index_facts t).2.1
  match a with
  | ⟨0, _⟩ => show win0_1.index t 0 * 1 + 1 * 0 = t.val; omega
  | ⟨1, _⟩ => show win0_1.index t 1 * 2048 + 1 * i.val = i.val; omega
  | ⟨2, _⟩ => show win0_1.index t 2 * 768 + 1 * d.val = d.val; omega

/-- The block of words at a point. -/
theorem iblk0_apply (c : Dev nD) (t : Fin cfg0.N) (i : Fin 2048) :
    iblk m c 0 t (ix3 0 0 i) = words m c (text t) i := by
  show V m c main_v0 (((cfg0.win 0).blk t).view.emb (ix3 0 0 i)) = _
  rw [V_words]
  have e : ((cfg0.win 0).blk t).view.emb (ix3 0 0 i) = (ix3 (text t) 0 i : S8x1x2048.Idx) := by
    refine funext fun a => Fin.ext ?_
    have h := (index_facts t).1
    match a with
    | ⟨0, _⟩ => show win0_0.index t 0 * 1 + 1 * 0 = t.val; omega
    | ⟨1, _⟩ => show win0_0.index t 1 * 1 + 1 * 0 = 0; omega
    | ⟨2, _⟩ => show win0_0.index t 2 * 2048 + 1 * i.val = i.val; omega
  rw [e]
  pointwise
  rfl

/-- The block of query weights. -/
theorem iblk2_apply (c : Dev nD) (t : Fin cfg0.N) (i : Fin 768) (j : Fin 96) :
    iblk m c 2 t (ix2 i j) = m ((c : Thread nD τ).loc main_arg2) (ix2 i j) := by
  show V m c main_arg2 (((cfg0.win 2).blk t).view.emb (ix2 i j)) = _
  rw [V_main_arg2]
  refine congrArg _ (funext fun a => Fin.ext ?_)
  have h := (index_zero t).1
  match a with
  | ⟨0, _⟩ => show win0_2.index t 0 * 768 + 1 * i.val = i.val; omega
  | ⟨1, _⟩ => show win0_2.index t 1 * 96 + 1 * j.val = j.val; omega

/-- The block of key weights. -/
theorem iblk4_apply (c : Dev nD) (t : Fin cfg0.N) (i : Fin 768) (j : Fin 96) :
    iblk m c 4 t (ix2 i j) = m ((c : Thread nD τ).loc main_arg4) (ix2 i j) := by
  show V m c main_arg4 (((cfg0.win 4).blk t).view.emb (ix2 i j)) = _
  rw [V_main_arg4]
  refine congrArg _ (funext fun a => Fin.ext ?_)
  have h := (index_zero t).2.2.1
  match a with
  | ⟨0, _⟩ => show win0_4.index t 0 * 768 + 1 * i.val = i.val; omega
  | ⟨1, _⟩ => show win0_4.index t 1 * 96 + 1 * j.val = j.val; omega

/-- The block of the queries' row. -/
theorem iblk3_apply (c : Dev nD) (t : Fin cfg0.N) (j : Fin 96) :
    iblk m c 3 t (ix2 0 j) = m ((c : Thread nD τ).loc main_arg3) (ix1 j) := by
  show V m c main_v1 (((cfg0.win 3).blk t).view.emb (ix2 0 j)) = _
  rw [V_rowQ]
  have e : ((cfg0.win 3).blk t).view.emb (ix2 0 j) = (ix2 0 j : S1x96.Idx) := by
    refine funext fun a => Fin.ext ?_
    have h := (index_zero t).2.1
    match a with
    | ⟨0, _⟩ => show win0_3.index t 0 * 1 + 1 * 0 = 0; omega
    | ⟨1, _⟩ => show win0_3.index t 1 * 96 + 1 * j.val = j.val; omega
  rw [e]
  pointwise

/-- The block of the keys' row. -/
theorem iblk5_apply (c : Dev nD) (t : Fin cfg0.N) (j : Fin 96) :
    iblk m c 5 t (ix2 0 j) = m ((c : Thread nD τ).loc main_arg5) (ix1 j) := by
  show V m c main_v2 (((cfg0.win 5).blk t).view.emb (ix2 0 j)) = _
  rw [V_rowK]
  have e : ((cfg0.win 5).blk t).view.emb (ix2 0 j) = (ix2 0 j : S1x96.Idx) := by
    refine funext fun a => Fin.ext ?_
    have h := (index_zero t).2.2.2
    match a with
    | ⟨0, _⟩ => show win0_5.index t 0 * 1 + 1 * 0 = 0; omega
    | ⟨1, _⟩ => show win0_5.index t 1 * 96 + 1 * j.val = j.val; omega
  rw [e]
  pointwise

/-- The whole output array the blocks are cut from. -/
def array (c : Dev nD) : Buf (Elt Ideal) ((c : Thread nD τ).loc main_v3) := fun i : S8x64x768.Idx => whole m c (i 0) (i 1) (i 2)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves at a point, index by index. -/
theorem after_apply (c : Dev nD) (t : Fin cfg0.N) (n : Fin 64) (d : Fin 768) :
    (dats m 0 c).after 6 t (ix3 0 n d) = whole m c (text t) n d := by
  rw [after0_6]
  unfold out0_6
  rw [View.canon_unit_zero zero3, View.ld_unit_zero zero3, View.ld_unit_zero zero3, View.ld_unit_zero zero2,
    View.ld_unit_zero zero2, View.ld_unit_zero zero2, View.ld_unit_zero zero2]
  rw [block_apply]
  unfold whole seg
  simp only [iblk0_apply, iblk1_apply, iblk2_apply, iblk3_apply, iblk4_apply, iblk5_apply]

/-- What a point writes back is its block of the whole output array. -/
theorem flushed_eq (c : Dev nD) (t : Fin cfg0.N) :
    (dats m 0 c).flushed 6 t = ((cfg0.win 6).blk t).view.read (Elt Ideal) (array m c) := by
  funext y
  obtain ⟨n, d, rfl⟩ : ∃ (n : Fin 64) (d : Fin 768), y = (ix3 0 n d : S1x64x768.Idx) :=
    ⟨y 1, y 2, by rw [eq_ix3 y]; congr 1; exact Subsingleton.elim (α := Fin 1) _ _⟩
  show (dats m 0 c).after 6 t (ix3 0 n d) = array m c (((cfg0.win 6).blk t).view.emb (ix3 0 n d))
  have e : ((cfg0.win 6).blk t).view.emb (ix3 0 n d) = (ix3 (text t) n d : S8x64x768.Idx) := by
    refine funext fun a => Fin.ext ?_
    have h := (index_facts t).2.2
    match a with
    | ⟨0, _⟩ => show win0_6.index t 0 * 1 + 1 * 0 = t.val; omega
    | ⟨1, _⟩ => show win0_6.index t 1 * 64 + 1 * n.val = n.val; omega
    | ⟨2, _⟩ => show win0_6.index t 2 * 768 + 1 * d.val = d.val; omega
  rw [e, after_apply]
  rfl

/-- The blocks of the eight points cover the output array. -/
theorem cover (i : S8x64x768.Idx) : ∃ t : Fin cfg0.N, (cfg0.win 6).flush t = true ∧ i ∈ ((cfg0.win 6).blk t).view.set := by
  have ht : (i 0).val < cfg0.N := (i 0).isLt.trans_eq N_0.symm
  refine ⟨⟨(i 0).val, ht⟩, flush0_6 _, ?_⟩
  show i ∈ ((View.whole main_v3).slice (win0_6.rect ⟨(i 0).val, ht⟩)).set
  rw [View.set_slice_whole, Rect.mem_set_unit]
  have h := (index_facts ⟨(i 0).val, ht⟩).2.2
  have h1 : (i 1).val < 64 := (i 1).isLt
  have h2 : (i 2).val < 768 := (i 2).isLt
  have h0 : win0_6.index ⟨(i 0).val, ht⟩ 0 = (i 0).val := h.1
  intro a
  match a with
  | ⟨0, _⟩ => show win0_6.index ⟨(i 0).val, ht⟩ 0 * 1 ≤ (i 0).val ∧ (i 0).val < win0_6.index ⟨(i 0).val, ht⟩ 0 * 1 + 1; omega
  | ⟨1, _⟩ => show win0_6.index ⟨(i 0).val, ht⟩ 1 * 64 ≤ (i 1).val ∧ (i 1).val < win0_6.index ⟨(i 0).val, ht⟩ 1 * 64 + 64; omega
  | ⟨2, _⟩ => show win0_6.index ⟨(i 0).val, ht⟩ 2 * 768 ≤ (i 2).val ∧ (i 2).val < win0_6.index ⟨(i 0).val, ht⟩ 2 * 768 + 768; omega

/-- The output array at the end of the grid. -/
theorem final (c : Dev nD) : (dats m 0 c).arrAt 6 cfg0.N = array m c :=
  (dats m 0 c).arrAt_eq_of_cover 6 (array m c) (fun t _ => flushed_eq m c t) cover

/-- The array the program returns: the output without its sentence 0. -/
def res (c : Dev nD) : Buf (Elt Ideal) ((c : Thread nD τ).loc main_v4) :=
  fun i : S8x63x768.Idx =>
    whole m c (i 0) ⟨1 + (i 1).val, by have h : (i 1).val < 63 := (i 1).isLt; omega⟩ (i 2)

/-- The slice after the grid reads the output array. -/
theorem tail_eq (c : Dev nD) : Pipeline.afterTail₀ cfgs (dats m) 0 (V0 m) [hostOps1] c main_v4 = res m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = array m c :=
    (Pipeline.withArrays_arr (cfgs 0).spec (by decide) c (V0 m c) (fun w => (dats m 0 c).arrAt w (cfgs 0).N) 6).trans (final m c)
  rw [e]
  funext i
  refine (extractStridedSlice_apply _ _ _ _ (ix3 (i 0) ⟨1 + (i 1).val, ?_⟩ (i 2) : S8x64x768.Idx) ?_).trans rfl
  · have h : (i 1).val < 63 := (i 1).isLt
    omega
  · intro a
    match a with
    | ⟨0, _⟩ => exact (Nat.zero_add _).symm
    | ⟨1, _⟩ => rfl
    | ⟨2, _⟩ => exact (Nat.zero_add _).symm

/-- The run of the kernel at the ideal instance: its result, and its arguments unchanged. -/
theorem run : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).2 main_v4 (Pipeline.mem_restRefs_of main_v4 (by decide) (by decide))).trans (tail_eq m c), h.2 c⟩)
    (θ_run_and (run_main m ρ) (unchanged m ρ))

end Cert.KernelIdeal.Result

end
-- ==== Proof.RefOps.lean ====
/- The reference's scatters and gathers by sentence, read at an index. Where token `(b, t)` has the word of sentence `n`, an
   accumulating scatter adds its update to row `(b, n)`, and a gather reads row `(b, n)`. -/
module

public import proofs.«01_k».proof.Proof.Model
public import proofs.«01_k».proof.Proof.Words
public import proofs.«01_k».proof.ReferenceIdeal
public import Idealize.ShloMosaic.Lib.Pointwise
public import Idealize.ShloMosaic.Lib.Routing.OpsPair

@[expose] public section

set_option maxRecDepth 16384

noncomputable section

namespace Cert.ReferenceIdeal.Ops

open Idealize.ShloMosaic Cert.Sent

/-! ## Words -/

/-- The word of a number below 64, read signed, is the number. -/
theorem toInt_ofNat {n : Nat} (h : n < 64) : (BitVec.ofNat 32 n).toInt = (n : Int) := by
  rw [BitVec.toInt_ofNat']
  simp only [Int.bmod_def]
  omega

/-- A word that reads signed as a number below 64 is that number's. -/
theorem toInt_eq_iff (w : BitVec 32) {n : Nat} (h : n < 64) : w.toInt = (n : Int) ↔ w = BitVec.ofNat 32 n :=
  ⟨fun e => BitVec.eq_of_toInt_eq (e.trans (toInt_ofNat h).symm), fun e => e ▸ toInt_ofNat h⟩

/-! ## Scatters -/

/-- The dimension numbers of a scatter of rows: one pair of index words per token, text and sentence. -/
abbrev rowDims (D : Nat) (wf : ScatterDims.WF ⟨3, ![8, 64, D]⟩ ⟨3, ![8, 2048, 2]⟩ ⟨3, ![8, 2048, D]⟩ [2] [0, 1] [0, 1] 2) :
    ScatterDims ⟨3, ![8, 64, D]⟩ ⟨3, ![8, 2048, 2]⟩ ⟨3, ![8, 2048, D]⟩ where
  updateWindowDims := [2]
  insertedWindowDims := [0, 1]
  scatterDimsToOperandDims := [0, 1]
  indexVectorDim := 2
  wf := wf

/-- and of a scatter of scalars. -/
abbrev cellDims (wf : ScatterDims.WF ⟨2, ![8, 64]⟩ ⟨3, ![8, 2048, 2]⟩ ⟨2, ![8, 2048]⟩ [] [0, 1] [0, 1] 2) :
    ScatterDims ⟨2, ![8, 64]⟩ ⟨3, ![8, 2048, 2]⟩ ⟨2, ![8, 2048]⟩ where
  updateWindowDims := []
  insertedWindowDims := [0, 1]
  scatterDimsToOperandDims := [0, 1]
  indexVectorDim := 2
  wf := wf

/-- Where the update of token `(b, t)`, feature `j`, lands. -/
theorem row_lands {D : Nat} (wf) (idx : IVec ⟨3, ![8, 2048, 2]⟩ 32) (b : Fin 8) (t : Fin 2048) (j : Fin D) (b' : Fin 8) (n : Fin 64)
    (j' : Fin D) :
    (rowDims D wf).resultIdx? (ix3 b t j) idx = some (ix3 b' n j')
      ↔ (idx (ix3 b t 0)).toInt = b'.val ∧ (idx (ix3 b t 1)).toInt = n.val ∧ j = j' := by
  rw [Routing.resultIdx?_eq_some]
  have h0 : (rowDims D wf).start (ix3 b t j) idx 0 + ((rowDims D wf).window (ix3 b t j) 0 : Int) = (idx (ix3 b t 0)).toInt := by
    have e : (rowDims D wf).siIdx (ix3 b t j) 0 = ix3 b t 0 := by
      funext a
      match a with
      | ⟨0, _⟩ => rfl
      | ⟨1, _⟩ => rfl
      | ⟨2, _⟩ => rfl
    rw [← e]
    exact Int.add_zero _
  have h1 : (rowDims D wf).start (ix3 b t j) idx 1 + ((rowDims D wf).window (ix3 b t j) 1 : Int) = (idx (ix3 b t 1)).toInt := by
    have e : (rowDims D wf).siIdx (ix3 b t j) 1 = ix3 b t 1 := by
      funext a
      match a with
      | ⟨0, _⟩ => rfl
      | ⟨1, _⟩ => rfl
      | ⟨2, _⟩ => rfl
    rw [← e]
    exact Int.add_zero _
  have h2 : (rowDims D wf).start (ix3 b t j) idx 2 + ((rowDims D wf).window (ix3 b t j) 2 : Int) = (j.val : Int) :=
    Int.zero_add _
  constructor
  · intro h
    exact ⟨h0.symm.trans (h 0), h1.symm.trans (h 1), Fin.ext (Int.ofNat.inj (h2.symm.trans (h 2)))⟩
  · rintro ⟨e0, e1, rfl⟩ a
    match a with
    | ⟨0, _⟩ => exact h0.trans e0
    | ⟨1, _⟩ => exact h1.trans e1
    | ⟨2, _⟩ => exact h2

/-- Where the scalar update of token `(b, t)` lands. -/
theorem cell_lands (wf) (idx : IVec ⟨3, ![8, 2048, 2]⟩ 32) (b : Fin 8) (t : Fin 2048) (b' : Fin 8) (n : Fin 64) :
    (cellDims wf).resultIdx? (ix2 b t) idx = some (ix2 b' n)
      ↔ (idx (ix3 b t 0)).toInt = b'.val ∧ (idx (ix3 b t 1)).toInt = n.val := by
  rw [Routing.resultIdx?_eq_some]
  have h0 : (cellDims wf).start (ix2 b t) idx 0 + ((cellDims wf).window (ix2 b t) 0 : Int) = (idx (ix3 b t 0)).toInt := by
    have e : (cellDims wf).siIdx (ix2 b t) 0 = ix3 b t 0 := by
      funext a
      match a with
      | ⟨0, _⟩ => rfl
      | ⟨1, _⟩ => rfl
      | ⟨2, _⟩ => rfl
    rw [← e]
    exact Int.add_zero _
  have h1 : (cellDims wf).start (ix2 b t) idx 1 + ((cellDims wf).window (ix2 b t) 1 : Int) = (idx (ix3 b t 1)).toInt := by
    have e : (cellDims wf).siIdx (ix2 b t) 1 = ix3 b t 1 := by
      funext a
      match a with
      | ⟨0, _⟩ => rfl
      | ⟨1, _⟩ => rfl
      | ⟨2, _⟩ => rfl
    rw [← e]
    exact Int.add_zero _
  constructor
  · intro h
    exact ⟨h0.symm.trans (h 0), h1.symm.trans (h 1)⟩
  · rintro ⟨e0, e1⟩ a
    match a with
    | ⟨0, _⟩ => exact h0.trans e0
    | ⟨1, _⟩ => exact h1.trans e1

/-- The table of index words pairs each token's text with its sentence word. -/
def Pairs (seg : Fin 8 → Fin 2048 → BitVec 32) (idx : IVec ⟨3, ![8, 2048, 2]⟩ 32) : Prop :=
  ∀ b t, idx (ix3 b t 0) = BitVec.ofNat 32 b.val ∧ idx (ix3 b t 1) = seg b t

/-- Under such a table the update of token `(b, t)` goes to text `b` and the sentence of its word. -/
theorem pair_iff {seg : Fin 8 → Fin 2048 → BitVec 32} {idx : IVec ⟨3, ![8, 2048, 2]⟩ 32} (h : Pairs seg idx) (b b' : Fin 8)
    (t : Fin 2048) (n : Fin 64) :
    ((idx (ix3 b t 0)).toInt = b'.val ∧ (idx (ix3 b t 1)).toInt = n.val) ↔ b = b' ∧ In (seg b) n t := by
  rw [(h b t).1, (h b t).2, toInt_ofNat (by omega), toInt_eq_iff _ n.isLt]
  exact and_congr_left' ⟨fun e => Fin.ext (Int.ofNat.inj e), fun e => by rw [e]⟩

/-- A scatter of rows at an index: the operand's element and the sentence's sum. -/
theorem scatter_rows {D : Nat} (wf) (x : (⟨3, ![8, 64, D]⟩ : Shape).Idx → EReal) (idx : IVec ⟨3, ![8, 2048, 2]⟩ 32)
    (upd : (⟨3, ![8, 2048, D]⟩ : Shape).Idx → EReal) (seg : Fin 8 → Fin 2048 → BitVec 32) (h : Pairs seg idx)
    (b : Fin 8) (n : Fin 64) (j : Fin D) :
    Ideal.hostScatterAdd (rowDims D wf) x idx upd (ix3 b n j)
      = x (ix3 b n j) + sumOver (seg b) (fun t => upd (ix3 b t j)) n := by
  unfold Ideal.hostScatterAdd
  rw [Finset.sum_filter, sum_idx3]
  refine congrArg _ ((Finset.sum_eq_single b (fun b' _ hb => ?_) (fun hb => absurd (Finset.mem_univ b) hb)).trans ?_)
  · refine Finset.sum_eq_zero fun t _ => Finset.sum_eq_zero fun j' _ => if_neg fun e => hb ?_
    have e' := (row_lands wf idx b' t j' b n j).1 e
    exact ((pair_iff h b' b t n).1 ⟨e'.1, e'.2.1⟩).1
  · refine Finset.sum_congr rfl fun t _ => ?_
    refine (Finset.sum_eq_single j (fun j' _ hj => if_neg fun e => hj ((row_lands wf idx b t j' b n j).1 e).2.2)
      (fun hj => absurd (Finset.mem_univ j) hj)).trans ?_
    refine if_congr ?_ rfl rfl
    rw [row_lands, ← and_assoc, pair_iff h]
    exact ⟨fun e => e.1.2, fun e => ⟨⟨rfl, e⟩, rfl⟩⟩

/-- A scatter of scalars at an index: the operand's element and the sentence's sum. -/
theorem scatter_cells (wf) (x : (⟨2, ![8, 64]⟩ : Shape).Idx → EReal) (idx : IVec ⟨3, ![8, 2048, 2]⟩ 32)
    (upd : (⟨2, ![8, 2048]⟩ : Shape).Idx → EReal) (seg : Fin 8 → Fin 2048 → BitVec 32) (h : Pairs seg idx)
    (b : Fin 8) (n : Fin 64) :
    Ideal.hostScatterAdd (cellDims wf) x idx upd (ix2 b n) = x (ix2 b n) + sumOver (seg b) (fun t => upd (ix2 b t)) n := by
  unfold Ideal.hostScatterAdd
  rw [Finset.sum_filter, sum_idx2]
  refine congrArg _ ((Finset.sum_eq_single b (fun b' _ hb => ?_) (fun hb => absurd (Finset.mem_univ b) hb)).trans ?_)
  · exact Finset.sum_eq_zero fun t _ => if_neg fun e => hb ((pair_iff h b' b t n).1 ((cell_lands wf idx b' t b n).1 e)).1
  · refine Finset.sum_congr rfl fun t _ => if_congr ?_ rfl rfl
    rw [cell_lands, pair_iff h]
    exact ⟨fun e => e.2, fun e => ⟨rfl, e⟩⟩

/-! ## Gathers -/

/-- The word of a sentence, clamped to the table's rows, is the sentence. -/
theorem clamp_ofNat {w : BitVec 32} {n : Fin 64} (h : w = BitVec.ofNat 32 n.val) : min w.toInt.toNat (64 - 1) = n.val := by
  rw [h, toInt_ofNat n.isLt]
  omega

/-- A gather of rows reads, at a token with the word of sentence `n`, row `n` of the token's text. -/
theorem gather_rows [Cert.ReferenceIdeal.Facts] (x : S8x64x96.Idx → EReal) (idx : IVec S8x2048x1 32) (b : Fin 8) (t : Fin 2048)
    (j : Fin 96) (n : Fin 64) (h : idx (ix3 b t 0) = BitVec.ofNat 32 n.val) :
    Host.gather gather_S8x64x96_S8x2048x1_S8x2048x96_2_1_0_0_1_2_1196 x idx (ix3 b t j) = x (ix3 b n j) := by
  unfold Host.gather
  refine congrArg x (funext fun a => Fin.ext ?_)
  match a with
  | ⟨0, _⟩ => exact Nat.zero_add _
  | ⟨1, _⟩ =>
    have e : (gather_S8x64x96_S8x2048x1_S8x2048x96_2_1_0_0_1_2_1196).siIdx (ix3 b t j) ⟨0, Nat.one_pos⟩ = ix3 b t 0 := by
      funext a
      match a with
      | ⟨0, _⟩ => rfl
      | ⟨1, _⟩ => rfl
      | ⟨2, _⟩ => rfl
    rw [← e] at h
    exact clamp_ofNat h
  | ⟨2, _⟩ => exact Nat.zero_add _

/-- A gather of scalars reads, at a token with the word of sentence `n`, cell `n` of the token's text. -/
theorem gather_cells [Cert.ReferenceIdeal.Facts] (x : S8x64.Idx → EReal) (idx : IVec S8x2048x1 32) (b : Fin 8) (t : Fin 2048)
    (n : Fin 64) (h : idx (ix3 b t 0) = BitVec.ofNat 32 n.val) :
    Host.gather gather_S8x64_S8x2048x1_S8x2048_n_1_0_0_1_2_11 x idx (ix2 b t) = x (ix2 b n) := by
  unfold Host.gather
  refine congrArg x (funext fun a => Fin.ext ?_)
  match a with
  | ⟨0, _⟩ => exact Nat.zero_add _
  | ⟨1, _⟩ =>
    have e : (gather_S8x64_S8x2048x1_S8x2048_n_1_0_0_1_2_11).siIdx (ix2 b t) ⟨0, Nat.one_pos⟩ = ix3 b t 0 := by
      funext a
      match a with
      | ⟨0, _⟩ => rfl
      | ⟨1, _⟩ => rfl
      | ⟨2, _⟩ => rfl
    rw [← e] at h
    exact clamp_ofNat h

end Cert.ReferenceIdeal.Ops

end
-- ==== Proof.RefValue.lean ====
/- The reference's run at the ideal instance: its result, index by index, is the model's. Each stage of the reference is
   a definition over plain arrays, read at a token that belongs to a sentence, where it equals the model's stage. -/
module

public import proofs.«01_k».proof.Proof.RefOps
public import proofs.«01_k».proof.Proof.Gen.ReferenceIdeal.Run

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.Sent Cert.ReferenceIdeal.Ops

/-! ## The stages -/

/-- A projection of every token. -/
def rProj (x : FVec Ideal S8x2048x768 .f32) (w : FVec Ideal S768x96 .f32) (b : FVec Ideal S96 .f32) : FVec Ideal S8x2048x96 .f32 :=
  addf (Host.dotGeneral dot_S8x2048x768_S768x96_S8x2048x96_2_0_01_1_n_n none x w)
    (broadcastInDim S8x2048x96 ![0, 1, 2] bcast_S1x1x96_S8x2048x96_0_1_2 (broadcastInDim S1x1x96 ![2] bcast_S96_S1x1x96_2 b))

/-- The table of index words the scatters take. -/
def rPairs (sg : IVec S8x2048 32) : IVec S8x2048x2 32 :=
  concatenate S8x2048x2 2
    [⟨S8x2048x1, broadcastInDim S8x2048x1 ![0, 1] bcast_S8x2048_S8x2048x1_0_1
        (broadcastInDim S8x2048 ![0, 1] bcast_S8x1_S8x2048_0_1 (broadcastInDim S8x1 ![0] bcast_S8_S8x1_0 (iotaInDim S8 32 0)))⟩,
      ⟨S8x2048x1, broadcastInDim S8x2048x1 ![0, 1] bcast_S8x2048_S8x2048x1_0_1 sg⟩]
    concatenates_S8x2048x1_S8x2048x1_S8x2048x2_d2

/-- The table of index words the gathers take: a negative word counts from the end. -/
def rWrap (sg : IVec S8x2048 32) : IVec S8x2048x1 32 :=
  broadcastInDim S8x2048x1 ![0, 1] bcast_S8x2048_S8x2048x1_0_1
    (select (cmpi .slt sg (broadcastInDim S8x2048 ![] bcast_S_S8x2048 (constantI S_ 32 0#32)))
      (addi sg (broadcastInDim S8x2048 ![] bcast_S_S8x2048 (constantI S_ 32 64#32))) sg)

/-- The scores of the tokens. -/
def rScore (sg : IVec S8x2048 32) (q k : FVec Ideal S8x2048x96 .f32) : FVec Ideal S8x2048 .f32 :=
  Host.reduceAdd
    (mulf q
      (Host.gather gather_S8x64x96_S8x2048x1_S8x2048x96_2_1_0_0_1_2_1196
        (Host.scatterAdd scatter_S8x64x96_S8x2048x2_S8x2048x96_2_01_01_2
          (broadcastInDim S8x64x96 ![] bcast_S_S8x64x96 (constant S_ .f32 0x00000000#32)) (rPairs sg) k)
        (rWrap sg)))
    (constant S_ .f32 0x00000000#32) reducesTo_S8x2048x96_S8x2048_d2 h_S_

/-- The greatest score of each sentence. -/
def rMax (sg : IVec S8x2048 32) (s : FVec Ideal S8x2048 .f32) : FVec Ideal S8x64 .f32 :=
  Host.reduce FloatOps.maximumf
    (select
      (cmpi .eq
        (broadcastInDim S8x64x2048 ![0, 1, 2] bcast_S8x1x2048_S8x64x2048_0_1_2 (broadcastInDim S8x1x2048 ![0, 2] bcast_S8x2048_S8x1x2048_0_2 sg))
        (broadcastInDim S8x64x2048 ![0, 1, 2] bcast_S1x64x1_S8x64x2048_0_1_2
          (broadcastInDim S1x64x1 ![1, 2] bcast_S64x1_S1x64x1_1_2 (broadcastInDim S64x1 ![0] bcast_S64_S64x1_0 (iotaInDim S64 32 0)))))
      (broadcastInDim S8x64x2048 ![0, 1, 2] bcast_S8x1x2048_S8x64x2048_0_1_2 (broadcastInDim S8x1x2048 ![0, 2] bcast_S8x2048_S8x1x2048_0_2 s))
      (broadcastInDim S8x64x2048 ![] bcast_S_S8x64x2048 (id (constant S_ .f32 0xFF800000#32))))
    (constant S_ .f32 0xFF800000#32) reducesTo_S8x64x2048_S8x64_d2 h_S_

/-- The exponentials of the scores. -/
def rExpo (sg : IVec S8x2048 32) (s : FVec Ideal S8x2048 .f32) : FVec Ideal S8x2048 .f32 :=
  Host.exp (subf s (Host.gather gather_S8x64_S8x2048x1_S8x2048_n_1_0_0_1_2_11 (rMax sg s) (rWrap sg)))

/-- The weights of the tokens. -/
def rWeight (sg : IVec S8x2048 32) (e : FVec Ideal S8x2048 .f32) : FVec Ideal S8x2048 .f32 :=
  Host.divf e
    (Host.gather gather_S8x64_S8x2048x1_S8x2048_n_1_0_0_1_2_11
      (Host.scatterAdd scatter_S8x64_S8x2048x2_S8x2048_n_01_01_2
        (broadcastInDim S8x64 ![] bcast_S_S8x64 (constant S_ .f32 0x00000000#32)) (rPairs sg) e)
      (rWrap sg))

/-- The tokens weighted and summed by sentence, and sentence zero left out. -/
def rOut (sg : IVec S8x2048 32) (a : FVec Ideal S8x2048 .f32) (x : FVec Ideal S8x2048x768 .f32) : FVec Ideal S8x63x768 .f32 :=
  extractStridedSlice S8x63x768 ![0, 1, 0]
    (Host.scatterAdd scatter_S8x64x768_S8x2048x2_S8x2048x768_2_01_01_2
      (broadcastInDim S8x64x768 ![] bcast_S_S8x64x768 (constant S_ .f32 0x00000000#32)) (rPairs sg)
      (mulf
        (broadcastInDim S8x2048x768 ![0, 1, 2] bcast_S8x2048x1_S8x2048x768_0_1_2
          (broadcastInDim S8x2048x1 ![0, 1] bcast_S8x2048_S8x2048x1_0_1 a)) x))
    slices_S8x64x768_S8x63x768_0_1_0

/-- The reference's result is the stages composed. -/
theorem res_eq (m : (ℓ : Loc nD τ sig) → Buf (Elt Ideal) ℓ) (c : Dev nD) :
    Value.res_main_v71 m c
      = rOut (m ((c.tc : Thread nD τ).loc main_arg1))
          (rWeight (m ((c.tc : Thread nD τ).loc main_arg1))
            (rExpo (m ((c.tc : Thread nD τ).loc main_arg1))
              (rScore (m ((c.tc : Thread nD τ).loc main_arg1))
                (rProj (m ((c.tc : Thread nD τ).loc main_arg0)) (m ((c.tc : Thread nD τ).loc main_arg2)) (m ((c.tc : Thread nD τ).loc main_arg3)))
                (rProj (m ((c.tc : Thread nD τ).loc main_arg0)) (m ((c.tc : Thread nD τ).loc main_arg4)) (m ((c.tc : Thread nD τ).loc main_arg5))))))
          (m ((c.tc : Thread nD τ).loc main_arg0)) := by
  unfold Value.res_main_v71
  rfl

/-! ## The stages at an index -/

/-- The words of text `b`. -/
abbrev row (sg : IVec S8x2048 32) (b : Fin 8) (t : Fin 2048) : BitVec 32 := sg (ix2 b t)

/-- A projection at a token and a feature. -/
theorem rProj_apply (x : FVec Ideal S8x2048x768 .f32) (w : FVec Ideal S768x96 .f32) (bias : FVec Ideal S96 .f32) (b : Fin 8)
    (t : Fin 2048) (j : Fin 96) :
    rProj x w bias (ix3 b t j)
      = proj (fun t i => x (ix3 b t i)) (fun i j => w (ix2 i j)) (fun j => bias (ix1 j)) t j := by
  unfold proj
  pointwise [rProj]

/-- The scatters' table pairs each token's text with its word. -/
theorem rPairs_pairs (sg : IVec S8x2048 32) : Pairs (row sg) (rPairs sg) := by
  intro b t
  constructor <;> pointwise [rPairs]

/-- At a token of sentence `n` the gathers' word is `n`'s. -/
theorem rWrap_apply {sg : IVec S8x2048 32} {b : Fin 8} {t : Fin 2048} {n : Fin 64} (h : In (row sg b) n t) :
    rWrap sg (ix3 b t 0) = BitVec.ofNat 32 n.val := by
  pointwise [rWrap]
  rw [show sg (ix2 b t) = BitVec.ofNat 32 n.val from h]
  exact Routing.wrap_of_lt _ _ (by rw [BitVec.toNat_ofNat]; omega)

/-- The score of a token of sentence `n`. -/
theorem rScore_apply {sg : IVec S8x2048 32} (q k : FVec Ideal S8x2048x96 .f32) {b : Fin 8} {t : Fin 2048} {n : Fin 64}
    (h : In (row sg b) n t) :
    rScore sg q k (ix2 b t) = score (row sg b) (fun t j => q (ix3 b t j)) (fun t j => k (ix3 b t j)) t := by
  unfold score
  pointwise [rScore]
  refine Finset.sum_congr rfl fun j _ => ?_
  rw [gather_rows _ _ b t j n (rWrap_apply h), atToken_of_in _ h]
  refine congrArg _ ((scatter_rows _ _ _ _ _ (rPairs_pairs sg) b n j).trans ?_)
  pointwise

/-- A sentence's greatest score. -/
theorem rMax_apply (sg : IVec S8x2048 32) (s : FVec Ideal S8x2048 .f32) (b : Fin 8) (n : Fin 64) :
    rMax sg s (ix2 b n) = maxOver (row sg b) (fun t => s (ix2 b t)) n := by
  unfold maxOver
  pointwise [rMax]
  rw [ofBits_negInf]
  refine congrArg (fun v => Finset.fold max ⊥ v Finset.univ) (funext fun t => ?_)
  rw [select_eqBit, show id (constant S_ .f32 0xFF800000#32 : FVec Ideal S_ .f32) ix0 = (⊥ : EReal) from ofBits_negInf]
  exact if_congr eq_comm rfl rfl

/-- The exponential at a token of sentence `n`. -/
theorem rExpo_apply {sg : IVec S8x2048 32} (s : FVec Ideal S8x2048 .f32) {b : Fin 8} {t : Fin 2048} {n : Fin 64}
    (h : In (row sg b) n t) : rExpo sg s (ix2 b t) = expo (row sg b) (fun t => s (ix2 b t)) t := by
  unfold expo
  pointwise [rExpo]
  rw [gather_cells _ _ b t n (rWrap_apply h), atToken_of_in _ h, rMax_apply]

/-- The weight of a token of sentence `n`. -/
theorem rWeight_apply {sg : IVec S8x2048 32} (e : FVec Ideal S8x2048 .f32) {b : Fin 8} {t : Fin 2048} {n : Fin 64}
    (h : In (row sg b) n t) : rWeight sg e (ix2 b t) = weight (row sg b) (fun t => e (ix2 b t)) t := by
  unfold weight
  pointwise [rWeight]
  rw [gather_cells _ _ b t n (rWrap_apply h), atToken_of_in _ h]
  refine congrArg _ ((scatter_cells _ _ _ _ _ (rPairs_pairs sg) b n).trans ?_)
  pointwise

/-- The result: row `n` of the 63 is sentence `n + 1`. -/
theorem rOut_apply (sg : IVec S8x2048 32) (a : FVec Ideal S8x2048 .f32) (x : FVec Ideal S8x2048x768 .f32) (b : Fin 8) (n : Fin 63)
    (d : Fin 768) :
    rOut sg a x (ix3 b n d)
      = sumOver (row sg b) (fun t => a (ix2 b t) * x (ix3 b t d)) ⟨1 + n.val, by omega⟩ := by
  pointwise [rOut]
  refine (scatter_rows _ _ _ _ _ (rPairs_pairs sg) b ⟨1 + n.val, by omega⟩ d).trans ?_
  pointwise

/-- The reference's result at an index, from its arguments' arrays. -/
theorem stages_apply (sg : IVec S8x2048 32) (x : FVec Ideal S8x2048x768 .f32) (wq wk : FVec Ideal S768x96 .f32)
    (bq bk : FVec Ideal S96 .f32) (b : Fin 8) (n : Fin 63) (d : Fin 768) :
    rOut sg (rWeight sg (rExpo sg (rScore sg (rProj x wq bq) (rProj x wk bk)))) x (ix3 b n d)
      = out (fun t i => x (ix3 b t i)) (row sg b) (fun i j => wq (ix2 i j)) (fun j => bq (ix1 j)) (fun i j => wk (ix2 i j))
          (fun j => bk (ix1 j)) ⟨1 + n.val, by omega⟩ d := by
  have hs : ∀ {n : Fin 64} {t : Fin 2048}, In (row sg b) n t →
      rScore sg (rProj x wq bq) (rProj x wk bk) (ix2 b t)
        = score (row sg b) (proj (fun t i => x (ix3 b t i)) (fun i j => wq (ix2 i j)) (fun j => bq (ix1 j)))
            (proj (fun t i => x (ix3 b t i)) (fun i j => wk (ix2 i j)) (fun j => bk (ix1 j))) t := by
    intro n t h
    rw [rScore_apply _ _ h]
    simp only [rProj_apply]
  have he : ∀ {n : Fin 64} {t : Fin 2048}, In (row sg b) n t →
      rExpo sg (rScore sg (rProj x wq bq) (rProj x wk bk)) (ix2 b t)
        = expo (row sg b) (score (row sg b) (proj (fun t i => x (ix3 b t i)) (fun i j => wq (ix2 i j)) (fun j => bq (ix1 j)))
            (proj (fun t i => x (ix3 b t i)) (fun i j => wk (ix2 i j)) (fun j => bk (ix1 j)))) t := by
    intro n t h
    rw [rExpo_apply _ h]
    unfold expo
    beta_reduce
    rw [hs h, atToken_of_in _ h, atToken_of_in _ h, maxOver_congr fun t' h' => hs h']
  rw [rOut_apply]
  unfold out
  refine sumOver_congr fun t h => ?_
  rw [rWeight_apply _ h]
  unfold weight
  beta_reduce
  rw [he h, atToken_of_in _ h, atToken_of_in _ h, sumOver_congr fun t' h' => he h']

/-- The model's result on the launch's arguments, as the array returned: sentence zero is left out. -/
def res (m : (ℓ : Loc nD τ sig) → Buf (Elt Ideal) ℓ) (c : Dev nD) : Buf (Elt Ideal) ((c.tc : Thread nD τ).loc main_v71) :=
  fun i : S8x63x768.Idx =>
    out (fun t i' => m ((c.tc : Thread nD τ).loc main_arg0) (ix3 (i 0) t i')) (fun t => m ((c.tc : Thread nD τ).loc main_arg1) (ix2 (i 0) t))
      (fun i' j => m ((c.tc : Thread nD τ).loc main_arg2) (ix2 i' j)) (fun j => m ((c.tc : Thread nD τ).loc main_arg3) (ix1 j))
      (fun i' j => m ((c.tc : Thread nD τ).loc main_arg4) (ix2 i' j)) (fun j => m ((c.tc : Thread nD τ).loc main_arg5) (ix1 j))
      ⟨1 + (i 1).val, Nat.add_lt_add_left (i 1).isLt 1⟩ (i 2)

/-- The reference's result is the model's. -/
theorem res_model (m : (ℓ : Loc nD τ sig) → Buf (Elt Ideal) ℓ) (c : Dev nD) : Value.res_main_v71 m c = res m c := by
  rw [res_eq]
  funext i
  exact (congrArg _ (eq_ix3 i)).trans (stages_apply _ _ _ _ _ _ (i 0) (i 1) (i 2))

/-- The reference's run: it ends with the model's result, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_model m c), (h c).2⟩) (Value.run m ρ)

/-- The same run leaves every counter at zero: the program has none. -/
theorem quiescent (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems (by decide) r.2⟩) (Value.run m ρ)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel and the reference, on arrays that agree, end with the model's result. -/
theorem algebraic : Cert.algebraic_KernelIdeal_ReferenceIdeal := by
  intro m g m' g' _ hargs
  refine ⟨Cert.KernelIdeal.Result.res m, Cert.KernelIdeal.Result.run m g, ?_⟩
  refine (θ_run Cert.ReferenceIdeal.defs _ _).mono (fun _ h c => ⟨(h c).1.trans ?_, (h c).2⟩) (Cert.ReferenceIdeal.Result.run m' g')
  obtain ⟨h0, h1, h2, h3, h4, h5⟩ := hargs c
  unfold Cert.ReferenceIdeal.Result.res
  rw [h0, h1, h2, h3, h4, h5]
  rfl

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Result.quiescent m ρ, trivial, algebraic⟩

end Cert.Proof

end
